-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x2048 : Shape := ⟨3, ![8, 2048, 2048]⟩
abbrev S8x2048x128 : Shape := ⟨3, ![8, 2048, 128]⟩
abbrev S8x2048x8 : Shape := ⟨3, ![8, 2048, 8]⟩
abbrev S128x8 : Shape := ⟨2, ![128, 8]⟩
abbrev S1x1x128 : Shape := ⟨3, ![1, 1, 128]⟩
abbrev S8x8x2048 : Shape := ⟨3, ![8, 8, 2048]⟩
abbrev S8x128 : Shape := ⟨2, ![8, 128]⟩
abbrev S2049x8x128 : Shape := ⟨3, ![2049, 8, 128]⟩
abbrev S8 : Shape := ⟨1, ![8]⟩
abbrev S_ : Shape := ⟨0, ![]⟩
abbrev S1 : Shape := ⟨1, ![1]⟩
abbrev S1x2048x128 : Shape := ⟨3, ![1, 2048, 128]⟩
abbrev S2048x128 : Shape := ⟨2, ![2048, 128]⟩
abbrev S1x8x2048 : Shape := ⟨3, ![1, 8, 2048]⟩
abbrev S8x2048 : Shape := ⟨2, ![8, 2048]⟩
abbrev S1x128 : Shape := ⟨2, ![1, 128]⟩
abbrev S1x8x128 : Shape := ⟨3, ![1, 8, 128]⟩
abbrev S2048x1x128 : Shape := ⟨3, ![2048, 1, 128]⟩
abbrev S8x2049x128 : Shape := ⟨3, ![8, 2049, 128]⟩
abbrev S8x2049 : Shape := ⟨2, ![8, 2049]⟩

abbrev nBuf : Space → Nat
  | .hbm => 11
  | .vmem => 6
  | .smem => 0
  | _ => 0

abbrev bufTy : (tb : Table) → Fin (tcTables nBuf tb) → BufTy
  | .hbm, ⟨0, _⟩ => ⟨S8x2048x2048, .f32⟩
  | .hbm, ⟨1, _⟩ => ⟨S8x2048x128, .f32⟩
  | .hbm, ⟨2, _⟩ => ⟨S8x2048x8, .f32⟩
  | .hbm, ⟨3, _⟩ => ⟨S128x8, .f32⟩
  | .hbm, ⟨4, _⟩ => ⟨S1x1x128, .f32⟩
  | .hbm, ⟨5, _⟩ => ⟨S8x8x2048, .f32⟩
  | .hbm, ⟨6, _⟩ => ⟨S8x128, .f32⟩
  | .hbm, ⟨7, _⟩ => ⟨S2049x8x128, .f32⟩
  | .hbm, ⟨8, _⟩ => ⟨S8x2049x128, .f32⟩
  | .hbm, ⟨9, _⟩ => ⟨S_, .i1⟩
  | .hbm, ⟨10, _⟩ => ⟨S8x2049, .i1⟩
  | .local _ .vmem, ⟨0, _⟩ => ⟨S8x128, .f32⟩
  | .local _ .vmem, ⟨1, _⟩ => ⟨S1x1x128, .f32⟩
  | .local _ .vmem, ⟨2, _⟩ => ⟨S8x2048x128, .f32⟩
  | .local _ .vmem, ⟨3, _⟩ => ⟨S8x8x2048, .f32⟩
  | .local _ .vmem, ⟨4, _⟩ => ⟨S8x2048x128, .f32⟩
  | .local _ .vmem, ⟨5, _⟩ => ⟨S8x128, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8x2048x2048 : Shape := ⟨3, ![8, 2048, 2048]⟩
abbrev S8x2048x128 : Shape := ⟨3, ![8, 2048, 128]⟩
abbrev S8x2048x8 : Shape := ⟨3, ![8, 2048, 8]⟩
abbrev S128x8 : Shape := ⟨2, ![128, 8]⟩
abbrev S1x1x128 : Shape := ⟨3, ![1, 1, 128]⟩
abbrev S8x1x128 : Shape := ⟨3, ![8, 1, 128]⟩
abbrev S8x2049x128 : Shape := ⟨3, ![8, 2049, 128]⟩
abbrev S_ : Shape := ⟨0, ![]⟩
abbrev S8x2049 : Shape := ⟨2, ![8, 2049]⟩

abbrev nBuf : Space → Nat
  | .hbm => 11
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x128, .f32⟩
  | .hbm, ⟨2, _⟩ => ⟨S8x2048x8, .f32⟩
  | .hbm, ⟨3, _⟩ => ⟨S128x8, .f32⟩
  | .hbm, ⟨4, _⟩ => ⟨S1x1x128, .f32⟩
  | .hbm, ⟨5, _⟩ => ⟨S8x2048x128, .f32⟩
  | .hbm, ⟨6, _⟩ => ⟨S8x2048x128, .f32⟩
  | .hbm, ⟨7, _⟩ => ⟨S8x1x128, .f32⟩
  | .hbm, ⟨8, _⟩ => ⟨S8x2049x128, .f32⟩
  | .hbm, ⟨9, _⟩ => ⟨S_, .i1⟩
  | .hbm, ⟨10, _⟩ => ⟨S8x2049, .i1⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩

abbrev nD : Nat := 1
abbrev τ : Topo := Topo.v7x

variable {F : FTy → Type} [FloatOps F]
-- ==== Proof.Pieces.lean ====
/- A memref held whole is held rectangle by rectangle, for any family of disjoint rectangles that cover it, and held so
   at contents not named it is held whole at contents not named. -/
module

public import Idealize.ShloMosaic.Lib.Ring

@[expose] public section

noncomputable section

namespace Cert.Pieces

open Idealize.ShloMosaic
open Idealize.SL Idealize.SL.RA
open Idealize.SL.BI (sProp bigSep bigSep_univ_eq_bigSepL)
open scoped Idealize.SL.BI
open Idealize.SL.BI.BIBase Idealize.SL.BI.Laws Idealize.SL.Sem Idealize.SL.ProofMode

variable {nD : Nat} {τ : Topo} {sig : RefSig} {Ix : Type} [DecidableEq Ix] {Val : EltTy → Type} {Name : Type} [DecidableEq Name]
variable {U : Type} [URA U] {Lvl : Type} {κ : Kind} {sp : Space} {S : Shape} {e : EltTy}

local notation "𝕄" => MT nD τ sig Ix Val Name U Lvl

section Cut

variable {B : Type} [Fintype B] [DecidableEq B] (M : Memref sig κ sp S e) (hM : M.view.set = Finset.univ) (R : B → Rect S)
  (hd : ∀ b b', b ≠ b' → Disjoint (R b).set (R b').set) (hc : ∀ i : S.Idx, ∃ b, i ∈ (R b).set)

omit [DecidableEq B] in
include hd in
theorem disjoint_on (b b' : B) (h : b ≠ b') : Disjoint (M.view.setOn (R b).set) (M.view.setOn (R b').set) :=
  (Finset.disjoint_map M.view.emb).mpr (hd b b' h)

omit [DecidableEq B] in
include hM hc in
theorem cover_on : Finset.univ.biUnion (fun b => M.view.setOn (R b).set) = Finset.univ := by
  refine Finset.eq_univ_of_forall fun i => ?_
  have hi : i ∈ M.view.set := by rw [hM]; exact Finset.mem_univ i
  obtain ⟨x, -, rfl⟩ := Finset.mem_map.mp hi
  obtain ⟨b, hb⟩ := hc x
  exact Finset.mem_biUnion.mpr ⟨b, Finset.mem_univ b, Finset.mem_map_of_mem _ hb⟩

end Cut

variable {B : Type} [Fintype B] [DecidableEq B] (M : Memref sig .tc sp S e) (hM : M.view.set = Finset.univ) (R : B → Rect S)
  (hd : ∀ b b', b ≠ b' → Disjoint (R b).set (R b').set) (hc : ∀ i : S.Idx, ∃ b, i ∈ (R b).set) (c : Dev nD)

omit [DecidableEq B] in
include hM hd hc in
/-- Whole is rectangle by rectangle; -/
theorem cut (f : Buf Val (M.view.loc (c.tc : Thread nD τ))) :
    ((M.view.loc (c.tc : Thread nD τ)) ↦{fullShare} f : sProp 𝕄)
      = bigSep Finset.univ fun b => (M.view.loc (c.tc : Thread nD τ)) ↦[M.view.setOn (R b).set]{fullShare} f :=
  Ring.pointsTo_blocks (ℓ := M.view.loc (c.tc : Thread nD τ)) (q := fullShare) (fun b => M.view.setOn (R b).set) (disjoint_on M R hd) (cover_on M hM R hc) f

include hM hd hc in
/-- and the rectangles at contents of their own are the whole at some contents. -/
theorem joinAny (f : Buf Val (M.view.loc (c.tc : Thread nD τ))) :
    (bigSep Finset.univ fun b => iprop(∃ g, (M.view.loc (c.tc : Thread nD τ)) ↦[M.view.setOn (R b).set]{fullShare} g))
      ⊢ (iprop(∃ g, (M.view.loc (c.tc : Thread nD τ)) ↦{fullShare} g) : sProp 𝕄) :=
  Ring.pointsTo_blocks_join_exists (ℓ := M.view.loc (c.tc : Thread nD τ)) (q := fullShare) (fun b => M.view.setOn (R b).set) (disjoint_on M R hd) (cover_on M hM R hc) f

/-- A proposition for each of eight, one by one. -/
abbrev all8 {W : Type} [URA W] (P : (b : ℕ) → b < 8 → sProp W) : sProp W :=
  iprop(P 0 (by decide) ∗ P 1 (by decide) ∗ P 2 (by decide) ∗ P 3 (by decide) ∗ P 4 (by decide) ∗ P 5 (by decide) ∗ P 6 (by decide) ∗ P 7 (by decide))

theorem all8_eq {W : Type} [URA W] (P : (b : ℕ) → b < 8 → sProp W) : (bigSep Finset.univ fun b : Fin 8 => P b.val b.isLt) = all8 P :=
  bigSep_univ_eq_bigSepL [(0 : Fin 8), 1, 2, 3, 4, 5, 6, 7] (by decide) (by decide) _

/-- One more before the eight. -/
theorem oneAll8_eq {W : Type} [URA W] (Q : sProp W) (P : (b : ℕ) → b < 8 → sProp W) :
    (bigSep Finset.univ fun b : Option (Fin 8) => b.elim Q fun b => P b.val b.isLt) = iprop(Q ∗ all8 P) :=
  bigSep_univ_eq_bigSepL [none, some (0 : Fin 8), some 1, some 2, some 3, some 4, some 5, some 6, some 7] (by decide) (by decide) _

end Cert.Pieces

end
-- ==== Proof.Blocks.lean ====
/- Blocks of a memref: what a load reads of a block a copy has landed in, what a copy reads of a block a store has
   filled, and which element of the buffer each element of a block is. Nothing here is about one program: the memref,
   its shape and the element type are variables. -/
module

public import Idealize.ShloMosaic.Lib.Pipeline.Value
public import Idealize.ShloMosaic.Lib.Tactic
public import Idealize.ShloMosaic.Lib.Ring
public import Idealize.ShloMosaic.Lib.Pointwise.Index
public import Idealize.ShloMosaic.Lib.ViewIndex
public import Idealize.ShloMosaic.Lib.VecWindow

@[expose] public section

noncomputable section

namespace Cert.Blocks

open Idealize.ShloMosaic

section Contents

variable {sig : RefSig} {κ : Kind} {sp : Space} {S T : Shape} {e : EltTy} {Val : EltTy → Type}
variable (M : Memref sig κ sp S e) (r : Rect S) (hr : ∀ a, r.stride a = 1) (hq : r.shape.Squeezes T)

/-- A block a copy has landed in, loaded and stripped of its unit axis, is the vector the copy carried. -/
theorem staged (hc : r.shape.ShapeCasts T) (g : M.view.ty.Contents Val) (p : T.Idx → Val e) :
    shapeCast T (M.view.readAt Val r.toLoadRect (View.write Val ((M.slice r hr).squeeze T hq).view g p Finset.univ)) hc = p :=
  (Memref.read_squeeze_slice M r hr hq hc _).symm.trans (View.read_write_univ _ _)

/-- A load at a rectangle one store has filled reads the payload of the store. -/
theorem readAt_stored (g : M.view.ty.Contents Val) (x : r.shape.Idx → Val e) :
    M.view.readAt Val r.toLoadRect (M.view.writes Val g [⟨r, x⟩]) = x := by
  funext y
  exact View.read_writes_cons_emb M.view g r x [] y

/-- A block one store has filled, read through its squeeze, is the stored vector without the unit axis. -/
theorem stored (hc : T.ShapeCasts r.shape) (g : M.view.ty.Contents Val) (x : T.Idx → Val e) :
    ((M.slice r hr).squeeze T hq).view.read Val (M.view.writes Val g [⟨r, shapeCast r.shape x hc⟩]) = x := by
  have hc' : r.shape.ShapeCasts T := hc.symm
  rw [Memref.read_squeeze_slice M r hr hq hc', readAt_stored, shapeCast_shapeCast]

/-- What a copy leaves on a block agrees there with any contents of the buffer that read the carried vector through
    the block. -/
theorem landed (g res : M.view.ty.Contents Val) (p : T.Idx → Val e)
    (h : ((M.slice r hr).squeeze T hq).view.read Val res = p) :
    ∀ i ∈ M.view.setOn r.set, View.write Val ((M.slice r hr).squeeze T hq).view g p Finset.univ i = res i := by
  intro i hi
  have hs : i ∈ ((M.slice r hr).squeeze T hq).view.set := by
    simp only [Memref.view_squeeze, Memref.view_slice, View.set_reshape, View.set_slice]
    exact hi
  obtain ⟨x, -, rfl⟩ := Finset.mem_map.mp hs
  rw [View.write_emb_of_mem _ _ (Finset.mem_univ _), ← h, View.read_apply]
  simp

end Contents

section Places

variable {sig : RefSig} {κ : Kind} {sp : Space} {e : EltTy} {Val : EltTy → Type} {n0 n1 n2 k : ℕ}
variable (M : Memref sig κ sp ⟨3, ![n0, n1, n2]⟩ e) (f : M.view.ty.Contents Val)

/-- Block `b` along the leading axis: element `(i, j)` is element `(b, i, j)` of the buffer. -/
theorem read_lead (b : ℕ) (hb : b < n0) (inb : ∀ a, (![b, 0, 0] : Fin 3 → ℕ) a + (![1, n1, n2] : Fin 3 → ℕ) a ≤ (![n0, n1, n2] : Fin 3 → ℕ) a)
    (hr : ∀ a, (Rect.unit (s := ⟨3, ![n0, n1, n2]⟩) ![b, 0, 0] ![1, n1, n2] inb).stride a = 1)
    (hq : (Rect.unit (s := ⟨3, ![n0, n1, n2]⟩) ![b, 0, 0] ![1, n1, n2] inb).shape.Squeezes ⟨2, ![n1, n2]⟩)
    (i : Fin n1) (j : Fin n2) :
    ((M.slice (Rect.unit (s := ⟨3, ![n0, n1, n2]⟩) ![b, 0, 0] ![1, n1, n2] inb) hr).squeeze ⟨2, ![n1, n2]⟩ hq).view.read Val f (ix2 i j)
      = M.view.read Val f (ix3 ⟨b, hb⟩ i j) := by
  rw [Memref.read_squeeze_slice M _ hr hq hq.numel_eq]
  refine (shapeCast_apply _ _ (ix2 i j) (ix3 (0 : Fin 1) i j) ?_).trans ?_
  · refine (Shape.rowMajor_val_three (d := ![1, n1, n2]) _).trans (Eq.trans ?_ (Shape.rowMajor_val_two (ix2 i j)).symm)
    show (0 * n1 + i.val) * n2 + j.val = i.val * n2 + j.val
    simp
  refine congrArg (M.view.read Val f) (Shape.idx3_ext ?_ ?_ ?_)
  · show b + 1 * 0 = b; omega
  · show 0 + 1 * i.val = i.val; omega
  · show 0 + 1 * j.val = j.val; omega

/-- Block `b` along the middle axis, from place `o` of the leading axis: element `(i, j)` is element `(o + i, b, j)`
    of the buffer. -/
theorem read_mid (o b : ℕ) (hb : b < n1) (inb : ∀ a, (![o, b, 0] : Fin 3 → ℕ) a + (![k, 1, n2] : Fin 3 → ℕ) a ≤ (![n0, n1, n2] : Fin 3 → ℕ) a)
    (hr : ∀ a, (Rect.unit (s := ⟨3, ![n0, n1, n2]⟩) ![o, b, 0] ![k, 1, n2] inb).stride a = 1)
    (hq : (Rect.unit (s := ⟨3, ![n0, n1, n2]⟩) ![o, b, 0] ![k, 1, n2] inb).shape.Squeezes ⟨2, ![k, n2]⟩)
    (i : Fin k) (j : Fin n2) (h0 : o + i.val < n0) :
    ((M.slice (Rect.unit (s := ⟨3, ![n0, n1, n2]⟩) ![o, b, 0] ![k, 1, n2] inb) hr).squeeze ⟨2, ![k, n2]⟩ hq).view.read Val f (ix2 i j)
      = M.view.read Val f (ix3 ⟨o + i.val, h0⟩ ⟨b, hb⟩ j) := by
  rw [Memref.read_squeeze_slice M _ hr hq hq.numel_eq]
  refine (shapeCast_apply _ _ (ix2 i j) (ix3 i (0 : Fin 1) j) ?_).trans ?_
  · refine (Shape.rowMajor_val_three (d := ![k, 1, n2]) _).trans (Eq.trans ?_ (Shape.rowMajor_val_two (ix2 i j)).symm)
    show (i.val * 1 + 0) * n2 + j.val = i.val * n2 + j.val
    simp
  refine congrArg (M.view.read Val f) (Shape.idx3_ext ?_ ?_ ?_)
  · show o + 1 * i.val = o + i.val; omega
  · show b + 1 * 0 = b; omega
  · show 0 + 1 * j.val = j.val; omega

end Places

section Whole

variable {α : Type}

/-- An array of 1 + 2048 rows for each of 8 graphs: row 0 from `head`, row `1 + i` of graph `b` from row `i` of
    `block b`. -/
def stacked (head : (⟨2, ![8, 128]⟩ : Shape).Idx → α) (block : Fin 8 → (⟨2, ![2048, 128]⟩ : Shape).Idx → α) :
    (⟨3, ![2049, 8, 128]⟩ : Shape).Idx → α := fun i =>
  if h : (i 0).val = 0 then head (ix2 (i 1) (i 2))
  else block (i 1) (ix2 ⟨(i 0).val - 1, by have : (i 0).val < 2049 := (i 0).isLt; omega⟩ (i 2))

variable (head : (⟨2, ![8, 128]⟩ : Shape).Idx → α) (block : Fin 8 → (⟨2, ![2048, 128]⟩ : Shape).Idx → α)

theorem stacked_head (b : Fin 8) (j : Fin 128) : stacked head block (ix3 (0 : Fin 2049) b j) = head (ix2 b j) := by
  unfold stacked; exact dif_pos rfl

theorem stacked_row (i : Fin 2048) (b : Fin 8) (j : Fin 128) (hi : 1 + i.val < 2049) :
    stacked head block (ix3 (⟨1 + i.val, hi⟩ : Fin 2049) b j) = block b (ix2 i j) := by
  unfold stacked
  have h : ¬ (ix3 (⟨1 + i.val, hi⟩ : Fin 2049) b j 0).val = 0 := by show ¬ 1 + i.val = 0; omega
  refine (dif_neg h).trans (congrArg (block b) ?_)
  funext a
  match a with
  | ⟨0, _⟩ => exact Fin.ext (by show 1 + i.val - 1 = i.val; omega)
  | ⟨1, _⟩ => rfl

end Whole

end Cert.Blocks

end
-- ==== Proof.Kernel.Value.lean ====
/- What the kernel body leaves, as values. The buffers are cut in the blocks the body copies: block `b` of the node
   features, of the eigenvectors and of the result. One lemma says what a block's copy out carries, one says where the
   copies land; both are stated for every block at once. -/
module

public import proofs.«01_k».proof.Proof.Gen.Kernel
public import proofs.«01_k».proof.Proof.Blocks

@[expose] public section

noncomputable section

namespace Cert.Kernel.Hand

open Cert.Kernel Cert.Kernel.Gen Cert.Blocks
open Idealize.ShloMosaic Idealize.ShloMosaic.TcCoe

variable {F : FTy → Type} [FloatOps F]

/-! ## The blocks -/

theorem inRow {b : ℕ} (hb : b < 8) : ∀ a, (![b, 0, 0] : Fin 3 → ℕ) a + S1x2048x128.size a ≤ S8x2048x128.size a := by
  intro a; fin_cases a <;> simp [S1x2048x128, S8x2048x128] <;> omega
theorem inEig {b : ℕ} (hb : b < 8) : ∀ a, (![b, 0, 0] : Fin 3 → ℕ) a + S1x8x2048.size a ≤ S8x8x2048.size a := by
  intro a; fin_cases a <;> simp [S1x8x2048, S8x8x2048] <;> omega
theorem inOut {b : ℕ} (hb : b < 8) : ∀ a, (![1, b, 0] : Fin 3 → ℕ) a + S2048x1x128.size a ≤ S2049x8x128.size a := by
  intro a; fin_cases a <;> simp [S2048x1x128, S2049x8x128] <;> omega

/-- Block `b` of an [8,2048,128] buffer. -/
abbrev rowR (b : ℕ) (hb : b < 8) : Rect S8x2048x128 := Rect.unit (s := S8x2048x128) ![b, 0, 0] S1x2048x128.size (inRow hb)
/-- Block `b` of an [8,8,2048] buffer. -/
abbrev eigR (b : ℕ) (hb : b < 8) : Rect S8x8x2048 := Rect.unit (s := S8x8x2048) ![b, 0, 0] S1x8x2048.size (inEig hb)
/-- Rows 1 to 2048 of graph `b` in the result. -/
abbrev outR (b : ℕ) (hb : b < 8) : Rect S2049x8x128 := Rect.unit (s := S2049x8x128) ![1, b, 0] S2048x1x128.size (inOut hb)
/-- Row 0 of every graph in the result. -/
abbrev headR : Rect S2049x8x128 := Rect.unit (s := S2049x8x128) ![0, 0, 0] S1x8x128.size inb_S2049x8x128_S1x8x128_0_0_0

abbrev hN : Memref sig .tc .hbm S8x2048x128 .f32 := Memref.whole main_arg1
abbrev hE : Memref sig .tc .hbm S8x8x2048 .f32 := Memref.whole main_v0
abbrev hO : Memref sig .tc .hbm S2049x8x128 .f32 := Memref.whole main_v2
abbrev vN : Memref sig .tc .vmem S8x2048x128 .f32 := Memref.whole cc0_scratch0
abbrev vE : Memref sig .tc .vmem S8x8x2048 .f32 := Memref.whole cc0_scratch1
abbrev vO : Memref sig .tc .vmem S8x2048x128 .f32 := Memref.whole cc0_scratch2

/-- Block `b` of an [8,2048,128] memref without its unit axis; -/
abbrev rowM {sp : Space} (M : Memref sig .tc sp S8x2048x128 .f32) (b : ℕ) (hb : b < 8) : Memref sig .tc sp S2048x128 .f32 :=
  (M.slice (rowR b hb) fun _ => rfl).squeeze S2048x128 squeezes_S1x2048x128_S2048x128
/-- of an [8,8,2048] one; -/
abbrev eigM {sp : Space} (M : Memref sig .tc sp S8x8x2048 .f32) (b : ℕ) (hb : b < 8) : Memref sig .tc sp S8x2048 .f32 :=
  (M.slice (eigR b hb) fun _ => rfl).squeeze S8x2048 squeezes_S1x8x2048_S8x2048
/-- of the result; -/
abbrev outM (b : ℕ) (hb : b < 8) : Memref sig .tc .hbm S2048x128 .f32 :=
  (hO.slice (outR b hb) fun _ => rfl).squeeze S2048x128 squeezes_S2048x1x128_S2048x128
/-- and the result's row 0. -/
abbrev headM : Memref sig .tc .hbm S8x128 .f32 :=
  (hO.slice headR fun _ => rfl).squeeze S8x128 squeezes_S1x8x128_S8x128

/-! ## What the body computes -/

/-- Graph `b`'s rows: its node features plus its eigenvectors times the weights. -/
def block (N : Vec F S8x2048x128 .f32) (E : Vec F S8x8x2048 .f32) (w : Vec F S8x128 .f32) (b : ℕ) (hb : b < 8) : FVec F S2048x128 .f32 :=
  addf ((rowM hN b hb).view.read (Elt F) N)
    (matmul dot_S8x2048_S8x128_S2048x128_0_0_1_1_n_n none ((eigM hE b hb).view.read (Elt F) E)
      (shapeCast S8x128 w shapeCasts_S8x128_S8x128) (constant S2048x128 .f32 0x00000000#32))

/-- The graph token, once for each graph. -/
def headRow (g : Vec F S1x1x128 .f32) : FVec F S8x128 .f32 :=
  broadcastTo S8x128 (shapeCast S1x128 (shapeCast S1x128 g shapeCasts_S1x1x128_S1x128) shapeCasts_S1x128_S1x128) broadcasts_S1x128_S8x128

/-- The whole result: the graph token above each graph's rows. -/
def result (N : Vec F S8x2048x128 .f32) (E : Vec F S8x8x2048 .f32) (w : Vec F S8x128 .f32) (g : Vec F S1x1x128 .f32) :
    Vec F S2049x8x128 .f32 :=
  stacked (headRow g) fun b => block N E w b.val b.isLt

/-! ## What the copies out carry -/

/-- The copy of block `b` out of the output staging carries `block b`: its inputs came by copies into the blocks of the
    two input stagings. -/
theorem carried (b : ℕ) (hb : b < 8) (aW : Memref sig .tc .vmem S8x128 .f32) (fW : aW.view.ty.Contents (Elt F))
    (N : Vec F S8x2048x128 .f32) (E : Vec F S8x8x2048 .f32) (gN gO : Vec F S8x2048x128 .f32) (gE : Vec F S8x8x2048 .f32) :
    (rowM vO b hb).view.read (Elt F) (vO.view.writes (Elt F) gO [⟨rowR b hb, shapeCast S1x2048x128
        (addf (shapeCast S2048x128 (vN.view.readAt (Elt F) (rowR b hb).toLoadRect
            (View.write (Elt F) (rowM vN b hb).view gN ((rowM hN b hb).view.read (Elt F) N) Finset.univ)) shapeCasts_S1x2048x128_S2048x128)
          (matmul dot_S8x2048_S8x128_S2048x128_0_0_1_1_n_n none
            (shapeCast S8x2048 (vE.view.readAt (Elt F) (eigR b hb).toLoadRect
              (View.write (Elt F) (eigM vE b hb).view gE ((eigM hE b hb).view.read (Elt F) E) Finset.univ)) shapeCasts_S1x8x2048_S8x2048)
            (shapeCast S8x128 (aW.view.readAt (Elt F) (Rect.unit ![0, 0] S8x128.size inb_S8x128_S8x128_0_0).toLoadRect fW) shapeCasts_S8x128_S8x128)
            (constant S2048x128 .f32 0x00000000#32))) shapeCasts_S2048x128_S1x2048x128⟩])
      = block N E (aW.view.read (Elt F) fW) b hb := by
  refine (stored vO (rowR b hb) _ _ shapeCasts_S2048x128_S1x2048x128 gO _).trans ?_
  have h1 := staged vN (rowR b hb) (fun _ => rfl) squeezes_S1x2048x128_S2048x128 shapeCasts_S1x2048x128_S2048x128 gN ((rowM hN b hb).view.read (Elt F) N)
  have h2 := staged vE (eigR b hb) (fun _ => rfl) squeezes_S1x8x2048_S8x2048 shapeCasts_S1x8x2048_S8x2048 gE ((eigM hE b hb).view.read (Elt F) E)
  have h3 := View.readAt_full (Val := Elt F) aW.view fW inb_S8x128_S8x128_0_0
  unfold block
  exact congr (congrArg addf h1) (congr (congrArg (matmul _ none) h2) (congrArg (fun w => shapeCast S8x128 w shapeCasts_S8x128_S8x128) h3) ▸ rfl)

/-- The copy of row 0 carries the graph token of every graph. -/
theorem carriedHead (aG : Memref sig .tc .vmem S1x1x128 .f32) (fG : aG.view.ty.Contents (Elt F))
    (vG : Memref sig .tc .vmem S8x128 .f32) (gG : vG.view.ty.Contents (Elt F)) :
    vG.view.read (Elt F) (vG.view.writes (Elt F) gG [⟨Rect.unit ![0, 0] S8x128.size inb_S8x128_S8x128_0_0, shapeCast S8x128
        (headRow (aG.view.readAt (Elt F) (Rect.unit ![0, 0, 0] S1x1x128.size inb_S1x1x128_S1x1x128_0_0_0).toLoadRect fG)) shapeCasts_S8x128_S8x128⟩])
      = headRow (aG.view.read (Elt F) fG) := by
  rw [← View.readAt_full (Val := Elt F) vG.view _ inb_S8x128_S8x128_0_0]
  refine (readAt_stored vG _ gG _).trans ?_
  rw [shapeCast_self, View.readAt_full (Val := Elt F) aG.view fG]

/-! ## Where the copies land -/

/-- Through block `b` the result reads `block b`. -/
theorem read_result (b : ℕ) (hb : b < 8) (N : Vec F S8x2048x128 .f32) (E : Vec F S8x8x2048 .f32) (w : Vec F S8x128 .f32) (g : Vec F S1x1x128 .f32) :
    (outM b hb).view.read (Elt F) (result N E w g) = block N E w b hb := by
  funext x
  obtain ⟨i, j, rfl⟩ : ∃ (i : Fin 2048) (j : Fin 128), x = ix2 i j := ⟨x 0, x 1, eq_ix2 x⟩
  refine (read_mid hO (result N E w g) 1 b hb (inOut hb) _ _ i j (by omega)).trans ?_
  exact stacked_row (headRow g) (fun b => block N E w b.val b.isLt) i ⟨b, hb⟩ j (by omega)

/-- Through its row 0 the result reads the graph token. -/
theorem read_result_head (N : Vec F S8x2048x128 .f32) (E : Vec F S8x8x2048 .f32) (w : Vec F S8x128 .f32) (g : Vec F S1x1x128 .f32) :
    headM.view.read (Elt F) (result N E w g) = headRow g := by
  funext x
  obtain ⟨i, j, rfl⟩ : ∃ (i : Fin 8) (j : Fin 128), x = ix2 i j := ⟨x 0, x 1, eq_ix2 x⟩
  refine (read_lead hO (result N E w g) 0 (by decide) inb_S2049x8x128_S1x8x128_0_0_0 _ _ i j).trans ?_
  exact stacked_head (headRow g) (fun b => block N E w b.val b.isLt) i j

end Cert.Kernel.Hand

end
-- ==== Proof.Kernel.Body.lean ====
/- The kernel body run once: from the blocks of its buffers to the blocks of the result at `result`. -/
module

public import proofs.«01_k».proof.Proof.Gen.Kernel.Launch
public import proofs.«01_k».proof.Proof.Gen.Kernel.Skeleton
public import proofs.«01_k».proof.Proof.Gen.Kernel.Points
public import proofs.«01_k».proof.Proof.Kernel.Value
public import Idealize.ShloMosaic.Lib.Pipeline.FrameSuffixV
public import Idealize.ShloMosaic.Lib.Tactic

@[expose] public section

set_option maxRecDepth 16384

noncomputable section

namespace Cert.Kernel.Hand

open Cert.Kernel Cert.Kernel.Gen Cert.Blocks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The elements of `M` under the rectangle `R`, held at contents `f`. -/
abbrev held (c : Dev nD) {sp : Space} {S : Shape} {e : EltTy} (M : Memref sig .tc sp S e) (R : Rect S) (f : Buf (Elt F) (M.view.loc (c : Thread nD τ))) : sProp 𝕄 :=
  M.view.loc (c : Thread nD τ) ↦[M.view.setOn R.set]{fullShare} f

/-- The same at contents not named. -/
abbrev heldAny (c : Dev nD) {sp : Space} {S : Shape} {e : EltTy} (M : Memref sig .tc sp S e) (R : Rect S) : sProp 𝕄 :=
  iprop(∃ f, held (F := F) c M R f)

/-- A proposition for each of the eight graphs. -/
abbrev all8 (P : (b : ℕ) → b < 8 → sProp 𝕄) : sProp 𝕄 :=
  iprop(P 0 (by decide) ∗ P 1 (by decide) ∗ P 2 (by decide) ∗ P 3 (by decide) ∗ P 4 (by decide) ∗ P 5 (by decide) ∗ P 6 (by decide) ∗ P 7 (by decide))

/-- The body's own counters, all at zero. -/
abbrev counters (c : Dev nD) : sProp 𝕄 :=
  iprop((semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0)
    ∗ (semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0)
    ∗ (semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0)
    ∗ semVal ((c : Thread nD τ), SemLoc.dma 26) 0)

/-- Where a copy of `block b` has landed the result is held at `result`; -/
theorem landedOut (c : Dev nD) (b : ℕ) (hb : b < 8) (N : Vec F S8x2048x128 .f32) (E : Vec F S8x8x2048 .f32) (w : Vec F S8x128 .f32) (g : Vec F S1x1x128 .f32)
    (fO : Vec F S2049x8x128 .f32) (p : FVec F S2048x128 .f32) (hp : p = block N E w b hb) :
    held c hO (outR b hb) (View.write (Elt F) (outM b hb).view fO p Finset.univ) ⊢ (held c hO (outR b hb) (result N E w g) : sProp 𝕄) :=
  (pointsTo_congr (landed hO (outR b hb) (fun _ => rfl) squeezes_S2048x1x128_S2048x128 fO (result N E w g) p
    ((read_result b hb N E w g).trans hp.symm))).le

/-- and so is its row 0 where the graph token has landed. -/
theorem landedHead (c : Dev nD) (N : Vec F S8x2048x128 .f32) (E : Vec F S8x8x2048 .f32) (w : Vec F S8x128 .f32) (g : Vec F S1x1x128 .f32)
    (fO : Vec F S2049x8x128 .f32) (p : FVec F S8x128 .f32) (hp : p = headRow g) :
    held c hO headR (View.write (Elt F) headM.view fO p Finset.univ) ⊢ (held c hO headR (result N E w g) : sProp 𝕄) :=
  (pointsTo_congr (landed hO headR (fun _ => rfl) squeezes_S1x8x128_S8x128 fO (result N E w g) p
    ((read_result_head N E w g).trans hp.symm))).le

set_option maxHeartbeats 8000000 in
/-- The body from its buffers held block by block, its counters at zero: the inputs come back as they were, the result's
    blocks are at `result`, the stagings at some contents, the counters at zero again. -/
theorem body_run (c : Dev nD) (aW : Memref sig .tc .vmem S8x128 .f32) (haW : aW.IsWhole) (aG : Memref sig .tc .vmem S1x1x128 .f32) (haG : aG.IsWhole) (vG : Memref sig .tc .vmem S8x128 .f32) (hvG : vG.IsWhole)
    (fN : Buf (Elt F) (hN.view.loc (c : Thread nD τ))) (fE : Buf (Elt F) (hE.view.loc (c : Thread nD τ)))
    (fO : Buf (Elt F) (hO.view.loc (c : Thread nD τ)))
    (gN : Buf (Elt F) (vN.view.loc (c : Thread nD τ))) (gE : Buf (Elt F) (vE.view.loc (c : Thread nD τ)))
    (gO : Buf (Elt F) (vO.view.loc (c : Thread nD τ))) (gG : Buf (Elt F) (vG.view.loc (c : Thread nD τ)))
    (fW : Buf (Elt F) (aW.view.loc (c : Thread nD τ))) (fG : Buf (Elt F) (aG.view.loc (c : Thread nD τ)))
    (W : Waits sig Unit) (K : PUnit → sProp 𝕄) :
    iprop((aW.view.loc (c : Thread nD τ) ↦[aW.view.set]{fullShare} fW) ∗ (aG.view.loc (c : Thread nD τ) ↦[aG.view.set]{fullShare} fG)
      ∗ (all8 fun b hb => held c hN (rowR b hb) fN) ∗ (all8 fun b hb => held c hE (eigR b hb) fE)
      ∗ held c hO headR fO ∗ (all8 fun b hb => held c hO (outR b hb) fO)
      ∗ (all8 fun b hb => held c vN (rowR b hb) gN) ∗ (all8 fun b hb => held c vE (eigR b hb) gE)
      ∗ (all8 fun b hb => held c vO (rowR b hb) gO) ∗ (vG.view.loc (c : Thread nD τ) ↦[vG.view.set]{fullShare} gG)
      ∗ counters c ∗ owes (c : Thread nD τ) 0 W
      ∗ (((aW.view.loc (c : Thread nD τ) ↦[aW.view.set]{fullShare} fW) ∗ (aG.view.loc (c : Thread nD τ) ↦[aG.view.set]{fullShare} fG)
        ∗ (all8 fun b hb => held c hN (rowR b hb) fN) ∗ (all8 fun b hb => held c hE (eigR b hb) fE)
        ∗ held c hO headR (result fN fE (aW.view.read (Elt F) fW) (aG.view.read (Elt F) fG))
        ∗ (all8 fun b hb => held c hO (outR b hb) (result fN fE (aW.view.read (Elt F) fW) (aG.view.read (Elt F) fG)))
        ∗ (all8 fun b hb => heldAny (F := F) c vN (rowR b hb)) ∗ (all8 fun b hb => heldAny (F := F) c vE (eigR b hb))
        ∗ (all8 fun b hb => heldAny (F := F) c vO (rowR b hb)) ∗ (∃ f, vG.view.loc (c : Thread nD τ) ↦[vG.view.set]{fullShare} f)
        ∗ counters c ∗ (∃ W', owes (c : Thread nD τ) 0 W')) -∗ K ⟨⟩))
      ⊢ wp frame (wpE (defs₀ (F := F)) Variants.none c none) Set.univ
          (cc0__fused_kernel hN (Memref.isWhole_whole _) hE (Memref.isWhole_whole _) aW haW aG haG hO (Memref.isWhole_whole _)
            vN (Memref.isWhole_whole _) vE (Memref.isWhole_whole _) vO (Memref.isWhole_whole _) vG hvG
            cc0_scratch4 cc0_scratch5 cc0_scratch6 cc0_scratch7) K := by
  simp only [cc0__fused_kernel_eq_skeleton]; unfold cc0__fused_kernel_skel
  dsimp only [all8, counters]
  iintro ⟨HW, HG, ⟨N0, N1, N2, N3, N4, N5, N6, N7⟩, ⟨E0, E1, E2, E3, E4, E5, E6, E7⟩, Oh, ⟨O0, O1, O2, O3, O4, O5, O6, O7⟩,
    ⟨n0, n1, n2, n3, n4, n5, n6, n7⟩, ⟨e0, e1, e2, e3, e4, e5, e6, e7⟩, ⟨o0, o1, o2, o3, o4, o5, o6, o7⟩, og,
    ⟨⟨s0, s1, s2, s3, s4, s5, s6, s7⟩, ⟨t0, t1, t2, t3, t4, t5, t6, t7⟩, ⟨u0, u1, u2, u3, u4, u5, u6, u7⟩, ug⟩, Ho, HK⟩
  sl_exec
  sl_step
  iapply HK
  isplitl [HW]; · iexact HW
  isplitl [HG]; · iexact HG
  isplitl [N0 N1 N2 N3 N4 N5 N6 N7]
  · isplitl [N0]; · iexact N0
    isplitl [N1]; · iexact N1
    isplitl [N2]; · iexact N2
    isplitl [N3]; · iexact N3
    isplitl [N4]; · iexact N4
    isplitl [N5]; · iexact N5
    isplitl [N6]; · iexact N6
    iexact N7
  isplitl [E0 E1 E2 E3 E4 E5 E6 E7]
  · isplitl [E0]; · iexact E0
    isplitl [E1]; · iexact E1
    isplitl [E2]; · iexact E2
    isplitl [E3]; · iexact E3
    isplitl [E4]; · iexact E4
    isplitl [E5]; · iexact E5
    isplitl [E6]; · iexact E6
    iexact E7
  isplitl [Oh]; · iapply (landedHead c fN fE _ _ fO _ (carriedHead aG fG vG gG)); iexact Oh
  isplitl [O0 O1 O2 O3 O4 O5 O6 O7]
  · isplitl [O0]; · iapply (landedOut c 0 _ fN fE _ _ fO _ (carried 0 _ aW fW fN fE gN gO gE)); iexact O0
    isplitl [O1]; · iapply (landedOut c 1 _ fN fE _ _ fO _ (carried 1 _ aW fW fN fE gN gO gE)); iexact O1
    isplitl [O2]; · iapply (landedOut c 2 _ fN fE _ _ fO _ (carried 2 _ aW fW fN fE gN gO gE)); iexact O2
    isplitl [O3]; · iapply (landedOut c 3 _ fN fE _ _ fO _ (carried 3 _ aW fW fN fE gN gO gE)); iexact O3
    isplitl [O4]; · iapply (landedOut c 4 _ fN fE _ _ fO _ (carried 4 _ aW fW fN fE gN gO gE)); iexact O4
    isplitl [O5]; · iapply (landedOut c 5 _ fN fE _ _ fO _ (carried 5 _ aW fW fN fE gN gO gE)); iexact O5
    isplitl [O6]; · iapply (landedOut c 6 _ fN fE _ _ fO _ (carried 6 _ aW fW fN fE gN gO gE)); iexact O6
    iapply (landedOut c 7 _ fN fE _ _ fO _ (carried 7 _ aW fW fN fE gN gO gE)); iexact O7
  isplitl [n0 n1 n2 n3 n4 n5 n6 n7]
  · isplitl [n0]; · iexists _; iexact n0
    isplitl [n1]; · iexists _; iexact n1
    isplitl [n2]; · iexists _; iexact n2
    isplitl [n3]; · iexists _; iexact n3
    isplitl [n4]; · iexists _; iexact n4
    isplitl [n5]; · iexists _; iexact n5
    isplitl [n6]; · iexists _; iexact n6
    iexists _; iexact n7
  isplitl [e0 e1 e2 e3 e4 e5 e6 e7]
  · isplitl [e0]; · iexists _; iexact e0
    isplitl [e1]; · iexists _; iexact e1
    isplitl [e2]; · iexists _; iexact e2
    isplitl [e3]; · iexists _; iexact e3
    isplitl [e4]; · iexists _; iexact e4
    isplitl [e5]; · iexists _; iexact e5
    isplitl [e6]; · iexists _; iexact e6
    iexists _; iexact e7
  isplitl [o0 o1 o2 o3 o4 o5 o6 o7]
  · isplitl [o0]; · iexists _; iexact o0
    isplitl [o1]; · iexists _; iexact o1
    isplitl [o2]; · iexists _; iexact o2
    isplitl [o3]; · iexists _; iexact o3
    isplitl [o4]; · iexists _; iexact o4
    isplitl [o5]; · iexists _; iexact o5
    isplitl [o6]; · iexists _; iexact o6
    iexists _; iexact o7
  isplitl [og]; · iexists _; iexact og
  isplitl [s0 s1 s2 s3 s4 s5 s6 s7 t0 t1 t2 t3 t4 t5 t6 t7 u0 u1 u2 u3 u4 u5 u6 u7 ug]
  · isplitl [s0 s1 s2 s3 s4 s5 s6 s7]
    · isplitl [s0]; · iexact s0
      isplitl [s1]; · iexact s1
      isplitl [s2]; · iexact s2
      isplitl [s3]; · iexact s3
      isplitl [s4]; · iexact s4
      isplitl [s5]; · iexact s5
      isplitl [s6]; · iexact s6
      iexact s7
    isplitl [t0 t1 t2 t3 t4 t5 t6 t7]
    · isplitl [t0]; · iexact t0
      isplitl [t1]; · iexact t1
      isplitl [t2]; · iexact t2
      isplitl [t3]; · iexact t3
      isplitl [t4]; · iexact t4
      isplitl [t5]; · iexact t5
      isplitl [t6]; · iexact t6
      iexact t7
    isplitl [u0 u1 u2 u3 u4 u5 u6 u7]
    · isplitl [u0]; · iexact u0
      isplitl [u1]; · iexact u1
      isplitl [u2]; · iexact u2
      isplitl [u3]; · iexact u3
      isplitl [u4]; · iexact u4
      isplitl [u5]; · iexact u5
      isplitl [u6]; · iexact u6
      iexact u7
    iexact ug
  iexists _; iexact Ho

end Cert.Kernel.Hand

end
-- ==== Proof.Kernel.Split.lean ====
/- Each buffer the body copies from or into, held whole, is held block by block, and the other way round. One lemma for
   each shape. -/
module

public import proofs.«01_k».proof.Proof.Pieces
public import proofs.«01_k».proof.Proof.Kernel.Body

@[expose] public section

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The blocks are disjoint and cover -/

theorem row_disjoint (b b' : Fin 8) (h : b ≠ b') : Disjoint (rowR b.val b.isLt).set (rowR b'.val b'.isLt).set :=
  Rect.unit_disjoint (0 : Fin 3) (by
    have : b.val ≠ b'.val := fun e => h (Fin.ext e)
    show b.val + 1 ≤ b'.val ∨ b'.val + 1 ≤ b.val
    omega)

theorem row_cover (i : S8x2048x128.Idx) : ∃ b : Fin 8, i ∈ (rowR b.val b.isLt).set := by
  refine ⟨⟨i 0, (i 0).isLt⟩, Rect.mem_set_unit.mpr fun a => ?_⟩
  have h1 : (i 1).val < 2048 := (i 1).isLt
  have h2 : (i 2).val < 128 := (i 2).isLt
  fin_cases a
  · exact ⟨le_rfl, Nat.lt_succ_self _⟩
  · exact ⟨Nat.zero_le _, by show (i 1).val < 0 + 2048; omega⟩
  · exact ⟨Nat.zero_le _, by show (i 2).val < 0 + 128; omega⟩

theorem eig_disjoint (b b' : Fin 8) (h : b ≠ b') : Disjoint (eigR b.val b.isLt).set (eigR b'.val b'.isLt).set :=
  Rect.unit_disjoint (0 : Fin 3) (by
    have : b.val ≠ b'.val := fun e => h (Fin.ext e)
    show b.val + 1 ≤ b'.val ∨ b'.val + 1 ≤ b.val
    omega)

theorem eig_cover (i : S8x8x2048.Idx) : ∃ b : Fin 8, i ∈ (eigR b.val b.isLt).set := by
  refine ⟨⟨i 0, (i 0).isLt⟩, Rect.mem_set_unit.mpr fun a => ?_⟩
  have h1 : (i 1).val < 8 := (i 1).isLt
  have h2 : (i 2).val < 2048 := (i 2).isLt
  fin_cases a
  · exact ⟨le_rfl, Nat.lt_succ_self _⟩
  · exact ⟨Nat.zero_le _, by show (i 1).val < 0 + 8; omega⟩
  · exact ⟨Nat.zero_le _, by show (i 2).val < 0 + 2048; omega⟩

/-- The result's pieces: row 0 of every graph, then each graph's other rows. -/
abbrev resR (b : Option (Fin 8)) : Rect S2049x8x128 := b.elim headR fun b => outR b.val b.isLt

theorem res_disjoint (b b' : Option (Fin 8)) (h : b ≠ b') : Disjoint (resR b).set (resR b').set := by
  match b, b' with
  | none, none => exact absurd rfl h
  | none, some b' => exact Rect.unit_disjoint (inb := inb_S2049x8x128_S1x8x128_0_0_0) (inb' := inOut b'.isLt) (0 : Fin 3) (Or.inl (by show 0 + 1 ≤ 1; omega))
  | some b, none => exact Rect.unit_disjoint (inb := inOut b.isLt) (inb' := inb_S2049x8x128_S1x8x128_0_0_0) (0 : Fin 3) (Or.inr (by show 0 + 1 ≤ 1; omega))
  | some b, some b' =>
    refine Rect.unit_disjoint (inb := inOut b.isLt) (inb' := inOut b'.isLt) (1 : Fin 3) ?_
    have : b.val ≠ b'.val := fun e => h (congrArg some (Fin.ext e))
    show b.val + 1 ≤ b'.val ∨ b'.val + 1 ≤ b.val
    omega

theorem res_cover (i : S2049x8x128.Idx) : ∃ b, i ∈ (resR b).set := by
  have h0 : (i 0).val < 2049 := (i 0).isLt
  have h1 : (i 1).val < 8 := (i 1).isLt
  have h2 : (i 2).val < 128 := (i 2).isLt
  by_cases hz : (i 0).val = 0
  · refine ⟨none, (Rect.mem_set_unit (inb := inb_S2049x8x128_S1x8x128_0_0_0)).mpr fun a => ?_⟩
    fin_cases a
    · exact ⟨Nat.zero_le _, by show (i 0).val < 0 + 1; omega⟩
    · exact ⟨Nat.zero_le _, by show (i 1).val < 0 + 8; omega⟩
    · exact ⟨Nat.zero_le _, by show (i 2).val < 0 + 128; omega⟩
  · refine ⟨some ⟨i 1, h1⟩, (Rect.mem_set_unit (inb := inOut h1)).mpr fun a => ?_⟩
    fin_cases a
    · exact ⟨by show 1 ≤ (i 0).val; omega, by show (i 0).val < 1 + 2048; omega⟩
    · exact ⟨le_rfl, Nat.lt_succ_self _⟩
    · exact ⟨Nat.zero_le _, by show (i 2).val < 0 + 128; omega⟩

/-! ## Whole and block by block -/

theorem split_row (c : Dev nD) {sp : Space} (M : Memref sig .tc sp S8x2048x128 .f32) (hM : M.view.set = Finset.univ) (f : Buf (Elt F) (M.view.loc (c : Thread nD τ))) :
    (M.view.loc (c : Thread nD τ) ↦{fullShare} f : sProp 𝕄) = all8 fun b hb => held c M (rowR b hb) f :=
  (Pieces.cut M hM (fun b : Fin 8 => rowR b.val b.isLt) row_disjoint row_cover c f).trans (Pieces.all8_eq fun b hb => held c M (rowR b hb) f)

theorem join_row (c : Dev nD) {sp : Space} (M : Memref sig .tc sp S8x2048x128 .f32) (hM : M.view.set = Finset.univ) (f : Buf (Elt F) (M.view.loc (c : Thread nD τ))) :
    (all8 fun b hb => heldAny (F := F) c M (rowR b hb)) ⊢ (iprop(∃ g, M.view.loc (c : Thread nD τ) ↦{fullShare} g) : sProp 𝕄) :=
  (Entails.of_eq (Pieces.all8_eq fun b hb => heldAny (F := F) c M (rowR b hb)).symm).trans (Pieces.joinAny M hM (fun b : Fin 8 => rowR b.val b.isLt) row_disjoint row_cover c f)

theorem split_eig (c : Dev nD) {sp : Space} (M : Memref sig .tc sp S8x8x2048 .f32) (hM : M.view.set = Finset.univ) (f : Buf (Elt F) (M.view.loc (c : Thread nD τ))) :
    (M.view.loc (c : Thread nD τ) ↦{fullShare} f : sProp 𝕄) = all8 fun b hb => held c M (eigR b hb) f :=
  (Pieces.cut M hM (fun b : Fin 8 => eigR b.val b.isLt) eig_disjoint eig_cover c f).trans (Pieces.all8_eq fun b hb => held c M (eigR b hb) f)

theorem join_eig (c : Dev nD) {sp : Space} (M : Memref sig .tc sp S8x8x2048 .f32) (hM : M.view.set = Finset.univ) (f : Buf (Elt F) (M.view.loc (c : Thread nD τ))) :
    (all8 fun b hb => heldAny (F := F) c M (eigR b hb)) ⊢ (iprop(∃ g, M.view.loc (c : Thread nD τ) ↦{fullShare} g) : sProp 𝕄) :=
  (Entails.of_eq (Pieces.all8_eq fun b hb => heldAny (F := F) c M (eigR b hb)).symm).trans (Pieces.joinAny M hM (fun b : Fin 8 => eigR b.val b.isLt) eig_disjoint eig_cover c f)

theorem split_result (c : Dev nD) (f : Buf (Elt F) (hO.view.loc (c : Thread nD τ))) (hM : hO.view.set = Finset.univ) :
    (hO.view.loc (c : Thread nD τ) ↦{fullShare} f : sProp 𝕄) = iprop(held c hO headR f ∗ all8 fun b hb => held c hO (outR b hb) f) :=
  (Pieces.cut hO hM resR res_disjoint res_cover c f).trans
    ((bigSep_congr fun b _ => by cases b <;> rfl).trans (Pieces.oneAll8_eq (held c hO headR f) fun b hb => held c hO (outR b hb) f))

end Cert.Kernel.Hand

end
-- ==== Proof.Kernel.Whole.lean ====
/- The kernel body run once on buffers held whole. -/
module

public import proofs.«01_k».proof.Proof.Kernel.Split

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev vG : Memref sig .tc .vmem S8x128 .f32 := Memref.whole cc0_scratch3

/-- A memref's buffer, held whole at `f`; -/
abbrev whole (c : Dev nD) {sp : Space} {S : Shape} {e : EltTy} (M : Memref sig .tc sp S e) (f : Buf (Elt F) (M.view.loc (c : Thread nD τ))) : sProp 𝕄 :=
  M.view.loc (c : Thread nD τ) ↦{fullShare} f

/-- held whole at contents not named. -/
abbrev wholeAny (c : Dev nD) {sp : Space} {S : Shape} {e : EltTy} (M : Memref sig .tc sp S e) : sProp 𝕄 :=
  iprop(∃ f, whole (F := F) c M f)

/-- The body from whole buffers: the windows and the inputs come back as they were, the result whole at `result`. -/
theorem body_whole (c : Dev nD) (aW : Memref sig .tc .vmem S8x128 .f32) (haW : aW.IsWhole) (aG : Memref sig .tc .vmem S1x1x128 .f32) (haG : aG.IsWhole)
    (w : Vec F S8x128 .f32) (g : Vec F S1x1x128 .f32)
    (fN : Buf (Elt F) (hN.view.loc (c : Thread nD τ))) (fE : Buf (Elt F) (hE.view.loc (c : Thread nD τ))) (fO : Buf (Elt F) (hO.view.loc (c : Thread nD τ)))
    (W : Waits sig Unit) (K : PUnit → sProp 𝕄) :
    iprop(owns (c : Thread nD τ) aW fullShare w ∗ owns (c : Thread nD τ) aG fullShare g
      ∗ whole c hN fN ∗ whole c hE fE ∗ whole c hO fO
      ∗ (wholeAny (F := F) c vN ∗ wholeAny (F := F) c vE ∗ wholeAny (F := F) c vO ∗ wholeAny (F := F) c vG)
      ∗ counters c ∗ owes (c : Thread nD τ) 0 W
      ∗ ((owns (c : Thread nD τ) aW fullShare w ∗ owns (c : Thread nD τ) aG fullShare g
        ∗ whole c hN fN ∗ whole c hE fE ∗ whole c hO (result fN fE w g)
        ∗ (wholeAny (F := F) c vN ∗ wholeAny (F := F) c vE ∗ wholeAny (F := F) c vO ∗ wholeAny (F := F) c vG)
        ∗ counters c ∗ (∃ W', owes (c : Thread nD τ) 0 W')) -∗ K ⟨⟩))
      ⊢ wp frame (wpE (defs₀ (F := F)) Variants.none c none) Set.univ
          (cc0__fused_kernel hN (Memref.isWhole_whole _) hE (Memref.isWhole_whole _) aW haW aG haG hO (Memref.isWhole_whole _)
            vN (Memref.isWhole_whole _) vE (Memref.isWhole_whole _) vO (Memref.isWhole_whole _) vG (Memref.isWhole_whole _)
            cc0_scratch4 cc0_scratch5 cc0_scratch6 cc0_scratch7) K := by
  unfold owns
  iintro ⟨⟨%fW, %hW, HW⟩, ⟨%fG, %hG, HG⟩, HN, HE, HO, ⟨⟨%gN, Hn⟩, ⟨%gE, He⟩, ⟨%gO, Ho⟩, ⟨%gG, Hg⟩⟩, Hs, Hw, HK⟩
  subst hW hG
  iapply (body_run c aW haW aG haG vG (Memref.isWhole_whole _) fN fE fO gN gE gO gG fW fG W K)
  isplitl [HW]; · iexact HW
  isplitl [HG]; · iexact HG
  isplitl [HN]; · iapply (Entails.of_eq (split_row c hN (View.set_whole _) fN)); iexact HN
  isplitl [HE]; · iapply (Entails.of_eq (split_eig c hE (View.set_whole _) fE)); iexact HE
  ihave HO' := (Entails.of_eq (split_result c fO (View.set_whole _))) $$ HO
  icases HO' with ⟨Oh, Or⟩
  isplitl [Oh]; · iexact Oh
  isplitl [Or]; · iexact Or
  isplitl [Hn]; · iapply (Entails.of_eq (split_row c vN (View.set_whole _) gN)); iexact Hn
  isplitl [He]; · iapply (Entails.of_eq (split_eig c vE (View.set_whole _) gE)); iexact He
  isplitl [Ho]; · iapply (Entails.of_eq (split_row c vO (View.set_whole _) gO)); iexact Ho
  isplitl [Hg]; · rw [show vG.view.set = Finset.univ from View.set_whole _]; iexact Hg
  isplitl [Hs]; · iexact Hs
  isplitl [Hw]; · iexact Hw
  iintro ⟨HW, HG, HN, HE, Oh, Or, Hn, He, Ho, ⟨%f, Hg⟩, Hs, HW'⟩
  iapply HK
  isplitl [HW]
  · iexists fW; isplitr; · ipureintro; rfl
    iexact HW
  isplitl [HG]
  · iexists fG; isplitr; · ipureintro; rfl
    iexact HG
  isplitl [HN]; · iapply (Entails.of_eq (split_row c hN (View.set_whole _) fN).symm); iexact HN
  isplitl [HE]; · iapply (Entails.of_eq (split_eig c hE (View.set_whole _) fE).symm); iexact HE
  isplitl [Oh Or]
  · iapply (Entails.of_eq (split_result c _ (View.set_whole _)).symm)
    isplitl [Oh]; · iexact Oh
    iexact Or
  isplitl [Hn He Ho Hg]
  · isplitl [Hn]; · iapply (join_row c vN (View.set_whole _) gN); iexact Hn
    isplitl [He]; · iapply (join_eig c vE (View.set_whole _) gE); iexact He
    isplitl [Ho]; · iapply (join_row c vO (View.set_whole _) gO); iexact Ho
    iexists f; rw [show vG.view.set = Finset.univ from View.set_whole _]; iexact Hg
  isplitl [Hs]; · iexact Hs
  iexact HW'

end Cert.Kernel.Hand

end
-- ==== Proof.Kernel.Launch.lean ====
/- The program's run: the host lines, the one region around the body, the host lines after it. Its arguments end as
   launched, its counters at zero, and its two results hold what the lines after the region make of `result`. -/
module

public import proofs.«01_k».proof.Proof.Kernel.Whole
public import proofs.«01_k».proof.Proof.Gen.Kernel.Frame

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the region uses beside its windows -/

/-- The body's own counters. -/
abbrev osem0 : Fin 25 → SemLoc sig := fun j => SemLoc.dma ⟨j.val + 2, by have := j.isLt; show j.val + 2 < 27; omega⟩

theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0) := by
  rw [Pipeline.ownSems0_eq_of_list c osem0 [0, 1, 2, 3, 4, 5, 6, 7, 8, 9, 10, 11, 12, 13, 14, 15, 16, 17, 18, 19, 20, 21, 22, 23, 24] (by decide) (by decide)]; rfl

/-- The counters as the body takes them are the region's own counters; -/
theorem counters_of_own (c : Dev nD) :
    (Pipeline.ownSems0 (Ix := Unit) (Name := ℕ) (U := Pipeline.UD sig nD τ) (Lvl := ℕ) (Val := Elt F) (τ := τ) osem0 c : sProp 𝕄) ⊢ counters c := by
  rw [ownSems00_eq]; dsimp only [counters]
  iintro ⟨s0, s1, s2, s3, s4, s5, s6, s7, s8, s9, s10, s11, s12, s13, s14, s15, s16, s17, s18, s19, s20, s21, s22, s23, s24⟩
  iframe

/-- and the other way round. -/
theorem own_of_counters (c : Dev nD) :
    (counters c : sProp 𝕄) ⊢ Pipeline.ownSems0 (Ix := Unit) (Name := ℕ) (U := Pipeline.UD sig nD τ) (Lvl := ℕ) (Val := Elt F) (τ := τ) osem0 c := by
  rw [ownSems00_eq]; dsimp only [counters]
  iintro ⟨⟨s0, s1, s2, s3, s4, s5, s6, s7⟩, ⟨s8, s9, s10, s11, s12, s13, s14, s15⟩, ⟨s16, s17, s18, s19, s20, s21, s22, s23⟩, s24⟩
  iframe

/-- The buffers the body reads in place, -/
def H0 : Finset (Ref sig .tc) := {main_arg1, main_v0}
/-- and the one it writes in place. -/
def R0 : Finset (Ref sig .tc) := {main_v2}
theorem H0_sub : H0 ⊆ Pipeline.restRefs sig spec0 := by decide
theorem R0_sub : R0 ⊆ Pipeline.restRefs sig spec0 \ H0 := by decide

/-- What the buffers hold after the region: the result at `result`, the others as the region finds them. -/
def G (c : Dev nD) : (b : Ref sig .tc) → Buf (Elt F) ((c : Thread nD τ).loc b) :=
  Function.update (V m c) main_v2 (result (V m c main_arg1) (V m c main_v0) (iblk m c 0 t0_0) (iblk m c 1 t0_0))

theorem G_v2 (c : Dev nD) : G m c main_v2 = result (V m c main_arg1) (V m c main_v0) (iblk m c 0 t0_0) (iblk m c 1 t0_0) :=
  Function.update_self ..

theorem inv_eq (c : Dev nD) (g : (c : Dev nD) → (b : Ref sig .tc) → Buf (Elt F) ((c : Thread nD τ).loc b)) :
    (Pipeline.ΦDRV osem0 spec0 H0 R0 (V m) g c : sProp 𝕄)
      = iprop((wholeAny (F := F) c vN ∗ wholeAny (F := F) c vE ∗ wholeAny (F := F) c vO ∗ wholeAny (F := F) c vG)
          ∗ Pipeline.ownSems0 (Ix := Unit) (Name := ℕ) (U := Pipeline.UD sig nD τ) (Lvl := ℕ) (Val := Elt F) (τ := τ) osem0 c
          ∗ (whole c hN (V m c main_arg1) ∗ whole c hE (V m c main_v0)) ∗ whole c hO (g c main_v2)) := by
  unfold Pipeline.ΦDRV
  rw [scopedRest0_eq, BI.bigSep_eq_bigSepL_of_eq (S := H0) [main_arg1, main_v0] (by decide) (by decide),
    BI.bigSep_eq_bigSepL_of_eq (S := R0) [main_v2] (by decide) (by decide)]
  rfl

/-! ## The region's proof data -/

/-- Before the one point the buffers are as the region finds them, after it the result is at `result`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := Pipeline.ΦDRV osem0 spec0 H0 R0 (V m) (if t.val = 0 then V m else G m) c
  q _ := fullShare
  owed _ := 0

theorem A_eq (c : Dev nD) (w : Fin cfg0.W) : (dats m 0 c).A w = V m c (Pipeline.arrRef spec0 w) := by
  dsimp only [dats]
theorem after_W (c : Dev nD) (t : Fin cfg0.N) : (dats m 0 c).after 0 t = iblk m c 0 t := by dsimp only [dats]
theorem after_G (c : Dev nD) (t : Fin cfg0.N) : (dats m 0 c).after 1 t = iblk m c 1 t := by dsimp only [dats]

/-- Each window's staging buffer holds its block when the body starts. -/
theorem before_W (c : Dev nD) (t : Fin cfg0.N) (d) : (dats m 0 c).before 0 t d = iblk m c 0 t :=
  ((dats m 0 c).before_in_eq_fetched 0 rfl (fun _ => rfl) (fun _ _ _ => rfl)
    (fun t => by rw [after_W]; unfold Dat.blockOf iblk; rw [A_eq]) t d).trans (by unfold Dat.fetched Dat.blockOf iblk; rw [A_eq]; rfl)
theorem before_G (c : Dev nD) (t : Fin cfg0.N) (d) : (dats m 0 c).before 1 t d = iblk m c 1 t :=
  ((dats m 0 c).before_in_eq_fetched 1 rfl (fun _ => rfl) (fun _ _ _ => rfl)
    (fun t => by rw [after_G]; unfold Dat.blockOf iblk; rw [A_eq]) t d).trans (by unfold Dat.fetched Dat.blockOf iblk; rw [A_eq]; rfl)

theorem before_inv (c : Dev nD) : (dats m 0 c).Φ (Fin.castSucc t0_0) = Pipeline.ΦDRV osem0 spec0 H0 R0 (V m) (V m) c := by
  show Pipeline.ΦDRV osem0 spec0 H0 R0 (V m) (if (0 : ℕ) = 0 then V m else G m) c = _
  rw [if_pos rfl]
theorem after_inv (c : Dev nD) : (dats m 0 c).Φ (Fin.succ t0_0) = Pipeline.ΦDRV osem0 spec0 H0 R0 (V m) (G m) c := by
  show Pipeline.ΦDRV osem0 spec0 H0 R0 (V m) (if (1 : ℕ) = 0 then V m else G m) c = _
  rw [if_neg (by decide)]

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  obtain rfl : t = t0_0 := fin_N0 t
  unfold bodyPre bodyPost
  rw [before_inv, after_inv, inv_eq, inv_eq, after_W, after_G, G_v2]
  unfold Dat.owesAt Pipeline.owesWithin
  rw [show (dats m 0 c).owed (Fin.castSucc t0_0) = 0 from rfl, show (dats m 0 c).owed (Fin.succ t0_0) = 0 from rfl]
  simp only [before_W, before_G]
  iintro ⟨⟨Hs, Hq, ⟨HN, HE⟩, HO⟩, ⟨%W, -, HW⟩, ⟨%d0, H0⟩, ⟨%d1, H1⟩⟩
  iapply (body_whole c (st0_0 t0_0) (hstage0_0 0) (st0_1 t0_0) (hstage0_1 0) (iblk m c 0 t0_0) (iblk m c 1 t0_0)
    (V m c main_arg1) (V m c main_v0) (V m c main_v2) W _)
  isplitl [H0]; · iexact H0
  isplitl [H1]; · iexact H1
  isplitl [HN]; · iexact HN
  isplitl [HE]; · iexact HE
  isplitl [HO]; · iexact HO
  isplitl [Hs]; · iexact Hs
  isplitl [Hq]; · iapply (counters_of_own c); iexact Hq
  isplitl [HW]; · iexact HW
  iintro ⟨H0, H1, HN, HE, HO, Hs, Hq, ⟨%W', HW⟩⟩
  isplitl [Hs Hq HN HE HO]
  · isplitl [Hs]; · iexact Hs
    isplitl [Hq]; · iapply (own_of_counters c); iexact Hq
    isplitl [HN HE]
    · isplitl [HN]; · iexact HN
      iexact HE
    iexact HO
  isplitl [HW]
  · iexists W'; isplitr; · ipureintro; exact fun _ _ => Or.inl trivial
    iexact HW
  isplitl [H0]; · iexact H0
  iexact H1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option maxHeartbeats 800000 in
/-- The program is its host lines around the region. -/
theorem hmain : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- What core `c`'s buffers hold when the lines after the region start. -/
def atTail (c : Dev nD) : Valuation τ sig (Elt F) :=
  Pipeline.withArrays spec0 c (Pipeline.withR (V0 m c) R0 c (G m c)) fun w => (dats m 0 c).arrAt w cfg0.N

set_option backward.isDefEq.respectTransparency.types false in
theorem run_main : θ_run defs (onTc (τ := τ) (main (F := F))) (s₀ m ρ) (fun r => (∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = StableHlo.after hostOps1 (atTail m c) (Proc.devRef .tc b))
      ∧ r.2.sem = fun _ => 0) :=
  Pipeline.θ_run_frame_dmaR_aroundV (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := G m)
    (hmain := hmain m) (hA := A_eq m)
    (hin := fun c => (Entails.of_eq (before_inv m c).symm)) (hout := fun c => (Entails.of_eq (after_inv m c)))
    (hQ' := fun r h => h)

end Cert.Kernel.Hand

end
-- ==== Proof.Kernel.Ends.lean ====
/- What the program's run ends with: both results as terms of the arguments, the arguments as launched, the counters at
   zero. -/
module

public import proofs.«01_k».proof.Proof.Kernel.Launch
public import Idealize.ShloMosaic.Lib.Claim
public import Idealize.ShloMosaic.Lib.Pipeline.ValueKit

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.Sem

variable {F : FTy → Type} [FloatOps F]

variable (m : (ℓ : Loc nD τ sig) → Buf (Elt F) ℓ) (ρ : Dev nD → PrngReg)

/-! ## What the region finds -/

theorem V_eig (c : Dev nD) : V m c main_v0 = transpose S8x8x2048 [0, 2, 1] (m ((c : Thread nD τ).loc main_arg2)) transposes_S8x2048x8_S8x8x2048_0_2_1 := by
  show StableHlo.after (List.flatten [hostOps0]) (fun b => m (c, b)) _ = _
  simp only [hostOps0, List.flatten_cons, List.flatten_nil, List.append_nil]
  after_results
theorem V_wt (c : Dev nD) : V m c main_v1 = transpose S8x128 [1, 0] (m ((c : Thread nD τ).loc main_arg3)) transposes_S128x8_S8x128_1_0 := by
  show StableHlo.after (List.flatten [hostOps0]) (fun b => m (c, b)) _ = _
  simp only [hostOps0, List.flatten_cons, List.flatten_nil, List.append_nil]
  after_results

/-- The weights' window is the whole of its array; -/
theorem iblk_W (c : Dev nD) : iblk m c 0 t0_0 = V m c main_v1 := by
  funext y
  unfold iblk
  refine congrArg (V m c main_v1) ?_
  funext a
  apply Fin.ext
  have e : win0_0.index t0_0 = fun _ => 0 := by decide
  fin_cases a <;> blk_simp [e] <;> simp

/-- so is the graph token's. -/
theorem iblk_G (c : Dev nD) : iblk m c 1 t0_0 = V m c main_arg4 := by
  funext y
  unfold iblk
  refine congrArg (V m c main_arg4) ?_
  funext a
  apply Fin.ext
  have e : win0_1.index t0_0 = fun _ => 0 := by decide
  fin_cases a <;> blk_simp [e] <;> simp

/-! ## What the lines after the region leave -/

/-- What the program's first result holds, as a term of its arguments. -/
def nodes (N : Vec F S8x2048x128 .f32) (E : Vec F S8x2048x8 .f32) (w : Vec F S128x8 .f32) (g : Vec F S1x1x128 .f32) : Vec F S8x2049x128 .f32 :=
  transpose S8x2049x128 [1, 0, 2] (result N (transpose S8x8x2048 [0, 2, 1] E transposes_S8x2048x8_S8x8x2048_0_2_1)
    (transpose S8x128 [1, 0] w transposes_S128x8_S8x128_1_0) g) transposes_S2049x8x128_S8x2049x128_1_0_2

/-- What its second result holds. -/
def mask : Vec F S8x2049 .i1 := broadcastInDim S8x2049 ![] bcast_S_S8x2049 (constantI S_ 1 0#1)

/-- A buffer that no window stages and the body does not write is, after the region, as the region found it. -/
theorem atTail_of_ne (c : Dev nD) (b : Ref sig .tc) (h0 : b ∉ R0) (h : ∀ w, Pipeline.arrRef spec0 w ≠ b) :
    atTail m c (Proc.devRef .tc b) = V m c b := by
  unfold atTail
  rw [Pipeline.withArrays_of_ne _ c _ _ b h, Pipeline.withR_of_not_mem _ _ _ _ b h0]

/-- The body's result is, after the region, at `result` of the arguments. -/
theorem atTail_v2 (c : Dev nD) : atTail m c (Proc.devRef .tc main_v2)
    = result (m ((c : Thread nD τ).loc main_arg1)) (transpose S8x8x2048 [0, 2, 1] (m ((c : Thread nD τ).loc main_arg2)) transposes_S8x2048x8_S8x8x2048_0_2_1)
        (transpose S8x128 [1, 0] (m ((c : Thread nD τ).loc main_arg3)) transposes_S128x8_S8x128_1_0) (m ((c : Thread nD τ).loc main_arg4)) := by
  unfold atTail
  rw [Pipeline.withArrays_of_ne _ c _ _ main_v2 (by exact (by decide : ∀ w, Pipeline.arrRef spec0 w ≠ main_v2)),
    Pipeline.withR_of_mem _ _ _ _ main_v2 (by decide), G_v2, iblk_W, iblk_G, V_eig, V_wt, V_main_arg1, V_main_arg4]

/-- The lines after the region write their three results only. -/
theorem tail_keeps (c : Dev nD) (b : Ref sig .tc) (h3 : b ≠ main_v3) (hc : b ≠ main_c) (h4 : b ≠ main_v4) (A : Valuation τ sig (Elt F)) :
    StableHlo.after hostOps1 A (Proc.devRef .tc b) = A (Proc.devRef .tc b) :=
  StableHlo.after_of_forall_not_mem (b := Proc.devRef .tc b) _ _ (List.forall_iff_forall_mem.mp (by
    simp only [hostOps1, List.Forall, StableHlo.nullary_writes, StableHlo.unary_writes, Finset.mem_singleton]
    exact ⟨StableHlo.devRef_ne_of_ne h3, StableHlo.devRef_ne_of_ne hc, StableHlo.devRef_ne_of_ne h4⟩))

theorem tail_v3 (A : Valuation τ sig (Elt F)) : StableHlo.after hostOps1 A (Proc.devRef .tc main_v3)
    = transpose S8x2049x128 [1, 0, 2] (A (Proc.devRef .tc main_v2)) transposes_S2049x8x128_S8x2049x128_1_0_2 := by
  simp only [hostOps1]
  after_results

theorem tail_v4 (A : Valuation τ sig (Elt F)) : StableHlo.after hostOps1 A (Proc.devRef .tc main_v4) = mask := by
  simp only [hostOps1]
  after_results
  rfl

/-! ## The run -/

/-- Every run ends with the two results at `nodes` and `mask` of the arguments, the arguments as launched and every
    counter at zero. -/
theorem ends : θ_run defs (onTc (τ := τ) (main (F := F))) ⟨m, fun _ => 0, ρ⟩ (fun r => (∀ c : Dev nD,
      r.2.mem ((c.tc : Thread nD τ).loc main_v3) = nodes (m ((c.tc : Thread nD τ).loc main_arg1)) (m ((c.tc : Thread nD τ).loc main_arg2))
          (m ((c.tc : Thread nD τ).loc main_arg3)) (m ((c.tc : Thread nD τ).loc main_arg4))
      ∧ r.2.mem ((c.tc : Thread nD τ).loc main_v4) = mask
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run defs _ _).mono (fun r h => ⟨fun c => ?_, h.2⟩) (run_main m ρ)
  have hr := (h.1 c).2
  have keep : ∀ b ∈ Pipeline.restRefs sig spec0, b ∉ R0 → (∀ w, Pipeline.arrRef spec0 w ≠ b) → b ≠ main_v3 → b ≠ main_c → b ≠ main_v4 →
      r.2.mem ((c.tc : Thread nD τ).loc b) = V m c b := fun b hb h0 hw h3 hc h4 =>
    (hr b hb).trans ((tail_keeps c b h3 hc h4 _).trans (atTail_of_ne m c b h0 hw))
  refine ⟨?_, ?_, ?_, ?_, ?_, ?_, ?_⟩
  · exact (hr main_v3 (Pipeline.mem_restRefs_of main_v3 (by decide) (by decide))).trans
      ((tail_v3 _).trans (by rw [atTail_v2]; rfl))
  · exact (hr main_v4 (Pipeline.mem_restRefs_of main_v4 (by decide) (by decide))).trans (tail_v4 _)
  · exact (keep main_arg0 (by decide) (by decide) (by decide) (by decide) (by decide) (by decide)).trans (V_main_arg0 m c)
  · exact (keep main_arg1 (by decide) (by decide) (by decide) (by decide) (by decide) (by decide)).trans (V_main_arg1 m c)
  · exact (keep main_arg2 (by decide) (by decide) (by decide) (by decide) (by decide) (by decide)).trans (V_main_arg2 m c)
  · exact (keep main_arg3 (by decide) (by decide) (by decide) (by decide) (by decide) (by decide)).trans (V_main_arg3 m c)
  · exact ((h.1 c).1 1).trans (((dats m 0 c).arrAt_in 1 rfl _).trans ((A_eq m c 1).trans (V_main_arg4 m c)))

end Cert.Kernel.Hand

end
-- ==== Proof.Same.lean ====
/- The idealized program is the kernel's program: no operation was rewritten, so the two texts are the same and what is
   proved of one, at any floats, is proved of the other. -/
module

public import proofs.«01_k».proof.Proof.Kernel.Ends
public import proofs.«01_k».proof.Proof.Gen.KernelIdeal

@[expose] public section

set_option maxRecDepth 16384

noncomputable section

namespace Cert.Same

open Idealize.ShloMosaic Idealize.SL.Sem

variable {F : FTy → Type} [FloatOps F]

/-- The two kernels' body tables are one, -/
theorem bodies : (KernelIdeal.defs₀ (F := F)) = (Kernel.defs₀ (F := F)) := by
  refine congrArg (Defs.onTc (nD := Kernel.nD) (τ := Kernel.τ) (sig := Kernel.sig) (Λ := Kernel.Λ₀) (Val := Elt F)) ?_
  funext l a
  match l, a with
  | 0, (_, _) => rfl

/-- so are the programs' body tables, -/
theorem tables : (KernelIdeal.defs (F := F)) = (Kernel.defs (F := F)) :=
  congrArg (Pipeline.defs (Kernel.pcfgs (F := F))) bodies

/-- and the two entry functions are one. -/
theorem mains : KernelIdeal.main (F := F) = Kernel.main (F := F) := rfl

open Cert.KernelIdeal in
/-- Every run of the idealized program ends with the two results at `nodes` and `mask` of the arguments, the arguments as
    launched and every counter at zero. -/
theorem ends (m : (ℓ : Loc nD τ sig) → Buf (Elt F) ℓ) (ρ : Dev nD → PrngReg) :
    θ_run (KernelIdeal.defs (F := F)) (onTc (τ := τ) (KernelIdeal.main (F := F))) ⟨m, fun _ => 0, ρ⟩ (fun r => (∀ c : Dev nD,
      r.2.mem ((c.tc : Thread nD τ).loc main_v3) = Kernel.Hand.nodes (m ((c.tc : Thread nD τ).loc main_arg1)) (m ((c.tc : Thread nD τ).loc main_arg2))
          (m ((c.tc : Thread nD τ).loc main_arg3)) (m ((c.tc : Thread nD τ).loc main_arg4))
      ∧ r.2.mem ((c.tc : Thread nD τ).loc main_v4) = Kernel.Hand.mask
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [tables, mains]
  exact Kernel.Hand.ends m ρ

end Cert.Same

end
-- ==== Proof.Kernel.Entries.lean ====
/- The kernel's result at the ideal values, entry by entry: row 0 of each graph is the graph token, row `1 + i` is node
   `i`'s features plus the sum over the eigenvectors of entry times weight. -/
module

public import proofs.«01_k».proof.Proof.Kernel.Ends
public import Idealize.ShloMosaic.PureOps.Ideal.Laws

@[expose] public section

noncomputable section

namespace Cert.Kernel.Hand

open Cert.Kernel Cert.Kernel.Gen Cert.Blocks
open Idealize.ShloMosaic Idealize.ShloMosaic.TcCoe

/-! ## The matrix product -/

/-- The kernel's product sums over the leading axis of both operands. -/
abbrev dot8 : DotDims S8x2048 S8x128 S2048x128 := dot_S8x2048_S8x128_S2048x128_0_0_1_1_n_n

theorem dot8_left (i : Fin 2048) (j : Fin 128) (k : Fin 8) :
    dot8.lhsIdx (ix2 i j) ((ValueIdx.contrEquiv1 dot8 8 rfl rfl).symm k) = ix2 k i := by
  funext a
  apply Fin.ext
  match a with
  | ⟨0, _⟩ => exact (dot8.lhsIdx_val_of_single rfl _ _).trans (ValueIdx.contrEquiv1_symm_val dot8 8 rfl rfl k)
  | ⟨1, _⟩ => rfl
theorem dot8_right (i : Fin 2048) (j : Fin 128) (k : Fin 8) :
    dot8.rhsIdx (ix2 i j) ((ValueIdx.contrEquiv1 dot8 8 rfl rfl).symm k) = ix2 k j := by
  funext a
  apply Fin.ext
  match a with
  | ⟨0, _⟩ => exact (dot8.rhsIdx_val_of_single rfl _ _).trans (ValueIdx.contrEquiv1_symm_val dot8 8 rfl rfl k)
  | ⟨1, _⟩ => rfl

theorem dot8_apply (x : FVec Ideal S8x2048 .f32) (y : FVec Ideal S8x128 .f32) (i : Fin 2048) (j : Fin 128) :
    matmul dot8 none x y (constant S2048x128 .f32 0x00000000#32) (ix2 i j) = ∑ k : Fin 8, x (ix2 k i) * y (ix2 k j) := by
  refine (Ideal.matmul_constant_zero_apply dot8 none x y (ix2 i j)).trans ?_
  rw [← Equiv.sum_comp (ValueIdx.contrEquiv1 dot8 8 rfl rfl).symm]
  exact Finset.sum_congr rfl fun k _ => by rw [dot8_left, dot8_right]

/-! ## The blocks -/

theorem block_apply (N : Vec Ideal S8x2048x128 .f32) (E : Vec Ideal S8x8x2048 .f32) (w : Vec Ideal S8x128 .f32)
    (b : Fin 8) (i : Fin 2048) (j : Fin 128) :
    block N E w b.val b.isLt (ix2 i j) = N (ix3 b i j) + ∑ k : Fin 8, E (ix3 b k i) * w (ix2 k j) := by
  have hn := read_lead (Val := Elt Ideal) hN N b.val b.isLt (inRow b.isLt) (fun _ => rfl) squeezes_S1x2048x128_S2048x128 i j
  have he := fun k : Fin 8 =>
    read_lead (Val := Elt Ideal) hE E b.val b.isLt (inEig b.isLt) (fun _ => rfl) squeezes_S1x8x2048_S8x2048 k i
  unfold block
  rw [shapeCast_self]
  refine congr (congrArg (fun x y : EReal => x + y) hn) ((dot8_apply _ _ i j).trans ?_)
  exact Finset.sum_congr rfl fun k _ => congrArg (· * w (ix2 k j)) (he k)

theorem headRow_apply (g : Vec Ideal S1x1x128 .f32) (b : Fin 8) (j : Fin 128) :
    headRow g (ix2 b j) = g (ix3 (0 : Fin 1) (0 : Fin 1) j) := by
  unfold headRow
  rw [shapeCast_self]
  refine (broadcastTo_apply _ _ (ix2 b j) (ix2 (0 : Fin 1) j) fun a => ?_).trans ?_
  · match a with
    | ⟨0, _⟩ => rfl
    | ⟨1, _⟩ => rfl
  · refine shapeCast_apply _ _ (ix2 (0 : Fin 1) j) (ix3 (0 : Fin 1) (0 : Fin 1) j) ?_
    refine (Shape.rowMajor_val_three (d := ![1, 1, 128]) _).trans (Eq.trans ?_ (Shape.rowMajor_val_two (ix2 (0 : Fin 1) j)).symm)
    show (0 * 1 + 0) * 128 + j.val = 0 * 128 + j.val
    simp

/-! ## The result -/

variable (N : Vec Ideal S8x2048x128 .f32) (E : Vec Ideal S8x2048x8 .f32) (w : Vec Ideal S128x8 .f32) (g : Vec Ideal S1x1x128 .f32)

/-- The result before the last transpose, at the place the transpose reads. -/
theorem nodes_apply (b : Fin 8) (r : Fin 2049) (j : Fin 128) :
    nodes N E w g (ix3 b r j) = result N (transpose S8x8x2048 [0, 2, 1] E transposes_S8x2048x8_S8x8x2048_0_2_1)
      (transpose S8x128 [1, 0] w transposes_S128x8_S8x128_1_0) g (ix3 r b j) := by
  unfold nodes
  refine transpose_apply _ _ _ (ix3 b r j) (ix3 r b j) fun a => ?_
  match a with
  | ⟨0, _⟩ => rfl
  | ⟨1, _⟩ => rfl
  | ⟨2, _⟩ => rfl

theorem nodes_head (b : Fin 8) (j : Fin 128) :
    nodes N E w g (ix3 b (0 : Fin 2049) j) = g (ix3 (0 : Fin 1) (0 : Fin 1) j) :=
  (nodes_apply N E w g b 0 j).trans ((stacked_head _ _ b j).trans (headRow_apply g b j))

theorem nodes_row (b : Fin 8) (i : Fin 2048) (j : Fin 128) (hi : 1 + i.val < 2049) :
    nodes N E w g (ix3 b (⟨1 + i.val, hi⟩ : Fin 2049) j) = N (ix3 b i j) + ∑ k : Fin 8, E (ix3 b i k) * w (ix2 j k) := by
  refine (nodes_apply N E w g b _ j).trans ((stacked_row _ _ i b j hi).trans ((block_apply _ _ _ b i j).trans ?_))
  refine congrArg (fun x : EReal => (N (ix3 b i j) : EReal) + x) (Finset.sum_congr rfl fun k _ => ?_)
  refine congr (congrArg (fun x y : EReal => x * y) ?_) ?_
  · refine transpose_apply _ _ _ (ix3 b k i) (ix3 b i k) fun a => ?_
    match a with
    | ⟨0, _⟩ => rfl
    | ⟨1, _⟩ => rfl
    | ⟨2, _⟩ => rfl
  · refine transpose_apply _ _ _ (ix2 k j) (ix2 j k) fun a => ?_
    match a with
    | ⟨0, _⟩ => rfl
    | ⟨1, _⟩ => rfl

end Cert.Kernel.Hand

end
-- ==== Proof.Reference.lean ====
/- The reference: its result entry by entry at the ideal values, and that it leaves every counter at zero. -/
module

public import proofs.«01_k».proof.Proof.Gen.ReferenceIdeal.Run
public import proofs.«01_k».proof.Proof.Gen.ReferenceIdeal.Read
public import Idealize.ShloMosaic.Lib.Claim
public import Idealize.ShloMosaic.Lib.Pipeline.Value
public import Idealize.ShloMosaic.Lib.Pointwise.Index

@[expose] public section

noncomputable section

namespace Cert.ReferenceIdeal.Hand

open Cert.ReferenceIdeal Cert.ReferenceIdeal.Gen Cert.ReferenceIdeal.Read
open Idealize.ShloMosaic Idealize.SL.Sem

/-- The reference declares no semaphore, so a state of its machine has no counter that could differ from zero. -/
theorem counters {Val : EltTy → Type} (s : MemSt nD τ sig Val) : s.sem = fun _ => 0 :=
  sem_eq_zero_of_no_sems (by decide) s

variable (N : Vec Ideal S8x2048x128 .f32) (E : Vec Ideal S8x2048x8 .f32) (w : Vec Ideal S128x8 .f32) (g : Vec Ideal S1x1x128 .f32)

theorem rows_head (b : Fin 8) (j : Fin 128) :
    val_main_v3 (F := Ideal) N E w g (ix3 b (0 : Fin 2049) j) = g (ix3 (0 : Fin 1) (0 : Fin 1) j) := by
  unfold val_main_v3
  refine (concatenate_pair_apply_left (t := S8x2049x128) 1 (val_main_v2 (F := Ideal) g)
    (val_main_v1 (F := Ideal) N E w) _ (ix3 b (0 : Fin 2049) j) rfl (ix3 b (0 : Fin 1) j) fun a => ?_).trans ?_
  · match a with
    | ⟨0, _⟩ => rfl
    | ⟨1, _⟩ => rfl
    | ⟨2, _⟩ => rfl
  · refine (val_main_v2_apply g _).trans (congrArg g (funext fun a => ?_))
    match a with
    | ⟨0, _⟩ => rfl
    | ⟨1, _⟩ => rfl
    | ⟨2, _⟩ => rfl

theorem rows_row (b : Fin 8) (i : Fin 2048) (j : Fin 128) (hi : 1 + i.val < 2049) :
    val_main_v3 (F := Ideal) N E w g (ix3 b (⟨1 + i.val, hi⟩ : Fin 2049) j)
      = N (ix3 b i j) + ∑ k : Fin 8, E (ix3 b i k) * w (ix2 j k) := by
  unfold val_main_v3
  refine (concatenate_pair_apply_right (t := S8x2049x128) 1 (val_main_v2 (F := Ideal) g)
    (val_main_v1 (F := Ideal) N E w) _ (ix3 b (⟨1 + i.val, hi⟩ : Fin 2049) j) rfl rfl (ix3 b i j) (fun a ha => ?_) ?_).trans ?_
  · match a, ha with
    | ⟨0, _⟩, _ => rfl
    | ⟨1, _⟩, ha => exact absurd rfl ha
    | ⟨2, _⟩, _ => rfl
  · show i.val + 1 = 1 + i.val
    omega
  · refine congrArg (fun x : EReal => (N (ix3 b i j) : EReal) + x) ((val_main_v0_apply E w (ix3 b i j)).trans ?_)
    refine Finset.sum_congr rfl fun k _ => ?_
    refine congr (congrArg (fun x y : EReal => x * y) (congrArg E (funext fun a => ?_))) (congrArg w (funext fun a => ?_))
    · match a with
      | ⟨0, _⟩ => rfl
      | ⟨1, _⟩ => rfl
      | ⟨2, _⟩ => rfl
    · match a with
      | ⟨0, _⟩ => rfl
      | ⟨1, _⟩ => rfl

end Cert.ReferenceIdeal.Hand

end
-- ==== Proof.Equation.lean ====
/- The kernel's result and the reference's are one array at the ideal values: both are read off at the graph token's row and
   at a node's row, which are all the rows there are. -/
module

public import proofs.«01_k».proof.Proof.Kernel.Entries
public import proofs.«01_k».proof.Proof.Reference

@[expose] public section

noncomputable section

namespace Cert.Equation

open Idealize.ShloMosaic
open Cert.Kernel (S8x2048x128 S8x2048x8 S128x8 S1x1x128 S8x2049x128)

/-- An array of 1 + 2048 rows is known from its row 0 and its rows `1 + i`. -/
theorem ext_rows {α : Type} {f g : S8x2049x128.Idx → α} (h0 : ∀ b j, f (ix3 b (0 : Fin 2049) j) = g (ix3 b (0 : Fin 2049) j))
    (h1 : ∀ b (i : Fin 2048) j (hi : 1 + i.val < 2049),
      f (ix3 b (⟨1 + i.val, hi⟩ : Fin 2049) j) = g (ix3 b (⟨1 + i.val, hi⟩ : Fin 2049) j)) : f = g := by
  funext x
  obtain ⟨b, r, j, rfl⟩ : ∃ (b : Fin 8) (r : Fin 2049) (j : Fin 128), x = ix3 b r j := ⟨x 0, x 1, x 2, eq_ix3 x⟩
  by_cases hr : r.val = 0
  · rw [show r = 0 from Fin.ext hr]
    exact h0 b j
  · have hi : 1 + (r.val - 1) < 2049 := by omega
    rw [show r = ⟨1 + (r.val - 1), hi⟩ from Fin.ext (by show r.val = 1 + (r.val - 1); omega)]
    exact h1 b ⟨r.val - 1, by omega⟩ j hi

theorem rows_eq_nodes (N : Vec Ideal S8x2048x128 .f32) (E : Vec Ideal S8x2048x8 .f32) (w : Vec Ideal S128x8 .f32) (g : Vec Ideal S1x1x128 .f32) :
    Cert.ReferenceIdeal.Read.val_main_v3 (F := Ideal) N E w g = Cert.Kernel.Hand.nodes N E w g :=
  ext_rows (fun b j => (Cert.ReferenceIdeal.Hand.rows_head N E w g b j).trans (Cert.Kernel.Hand.nodes_head N E w g b j).symm)
    fun b i j hi => (Cert.ReferenceIdeal.Hand.rows_row N E w g b i j hi).trans (Cert.Kernel.Hand.nodes_row N E w g b i j hi).symm

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Same
public import proofs.«01_k».proof.Proof.Equation
public import Idealize.ShloMosaic.Adequacy
public import Idealize.ShloMosaic.Init

@[expose] public section

noncomputable section

namespace Cert.Proof

open Idealize.ShloMosaic Idealize.SL.Sem

theorem kernel_quiescent : Cert.quiescent_Kernel := fun m ρ _ =>
  (θ_run Cert.Kernel.defs _ _).mono (fun _ h => ⟨fun c => (h.1 c).2.2, h.2⟩) (Cert.Kernel.Hand.ends (F := Bits) m ρ)

theorem idealized_quiescent : Cert.quiescent_KernelIdeal := fun m ρ _ =>
  (θ_run Cert.KernelIdeal.defs _ _).mono (fun _ h => ⟨fun c => (h.1 c).2.2, h.2⟩) (Cert.Same.ends (F := Ideal) m ρ)

theorem reference_quiescent : Cert.quiescent_ReferenceIdeal := fun m ρ _ =>
  (θ_run Cert.ReferenceIdeal.defs _ _).mono (fun r h => ⟨fun c => (h c).2.2, Cert.ReferenceIdeal.Hand.counters r.2⟩)
    (Cert.ReferenceIdeal.Value.run (F := Ideal) m ρ)

/-- Both programs end with the kernel's two results: the kernel by its run, the reference by its own run and the equation
    of the two results. -/
theorem algebraic : Cert.algebraic_KernelIdeal_ReferenceIdeal := by
  intro m ρ m' ρ' _ hm
  refine ⟨_, fun _ => Cert.Kernel.Hand.mask, (θ_run Cert.KernelIdeal.defs _ _).mono (fun _ h => h.1) (Cert.Same.ends (F := Ideal) m ρ),
    (θ_run Cert.ReferenceIdeal.defs _ _).mono (fun r h c => ⟨(h c).1.trans ?_, (h c).2⟩) (Cert.ReferenceIdeal.Value.run (F := Ideal) m' ρ')⟩
  obtain ⟨-, h1, h2, h3, h4⟩ := hm c
  rw [h1, h2, h3, h4]
  exact Cert.Equation.rows_eq_nodes _ _ _ _

theorem claim : Cert.Claim := ⟨Cert.Kernel.Gen.facts, Cert.KernelIdeal.Gen.facts, Cert.ReferenceIdeal.Gen.facts,
  kernel_quiescent, idealized_quiescent, reference_quiescent, trivial, algebraic⟩

end Cert.Proof

end
